-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x256 : Shape := ⟨2, ![512, 256]⟩
abbrev S_ : Shape := ⟨0, ![]⟩
abbrev S256x256 : Shape := ⟨2, ![256, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x512, .bf16⟩
  | .hbm, ⟨1, _⟩ => ⟨S512x256, .bf16⟩
  | .local _ .vmem, ⟨0, _⟩ => ⟨S256x512, .bf16⟩
  | .local _ .vmem, ⟨1, _⟩ => ⟨S512x256, .bf16⟩
  | .local _ .vmem, ⟨2, _⟩ => ⟨S256x512, .bf16⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_11 : BitVec 32 := 0#32
  let v22 : BitVec 1 := Scalar.cmpi .eq v2 c0_i32_11
  let v23 : BitVec 32 := Scalar.extui v22
  let c0_i32_12 : BitVec 32 := 0#32
  let v24 : BitVec 1 := Scalar.cmpi .ne v23 c0_i32_12
  v24

def k0_dev2 (d0 : Dev nD) : Nat :=
  let c0_i32_16 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_15 : BitVec 32 := 16#32
  let v28 : BitVec 32 := Scalar.muli v9 c16_i32_15
  let v29 : BitVec 32 := Scalar.addi c0_i32_16 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v30 : BitVec 32 := Scalar.muli v5 c4_i32_17
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v32 : BitVec 32 := Scalar.muli v8 c1_i32_18
  let v33 : BitVec 32 := Scalar.addi v31 v32
  v33.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_13 : BitVec 32 := 1#32
  let v25 : BitVec 1 := Scalar.cmpi .eq v2 c1_i32_13
  let v26 : BitVec 32 := Scalar.extui v25
  let c0_i32_14 : BitVec 32 := 0#32
  let v27 : BitVec 1 := Scalar.cmpi .ne v26 c0_i32_14
  v27

def k0_dev3 (d0 : Dev nD) : Nat :=
  let c0_i32_16 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_15 : BitVec 32 := 16#32
  let v28 : BitVec 32 := Scalar.muli v9 c16_i32_15
  let v29 : BitVec 32 := Scalar.addi c0_i32_16 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v30 : BitVec 32 := Scalar.muli v5 c4_i32_17
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v32 : BitVec 32 := Scalar.muli v8 c1_i32_18
  let v33 : BitVec 32 := Scalar.addi v31 v32
  v33.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Halves.lean ====
/- The geometry of the exchange: which device talks to which, the two halves every buffer is cut into,
   what lies in a device's result block once its own half and its partner's half are in place, and the
   facts that say a copy of one half writes exactly that. Nothing here mentions a semaphore. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.Sem

variable {F : FTy → Type} [FloatOps F]

/-! ## Devices -/

/-- A device's coordinate along the mesh axis of extent two (the other two axes have four each). -/
def side (c : Dev nD) : Fin 2 := ⟨c.val / 16, by have h : c.val < 32 := c.isLt; omega⟩

/-- The device with the same position on the two long axes and the other coordinate on the short one. -/
def peer (c : Dev nD) : Dev nD := ⟨(c.val + 16) % 32, Nat.mod_lt _ (by decide)⟩

/-- The other half. -/
def other (k : Fin 2) : Fin 2 := 1 - k

/-- Taking the other half twice gives the half back. -/
theorem other_other (k : Fin 2) : other (other k) = k := by revert k; decide
/-- The partner's partner is the device itself. -/
theorem peer_peer (c : Dev nD) : peer (peer c) = c := by revert c; decide
/-- Partners have different coordinates on the short axis. -/
theorem side_peer (c : Dev nD) : side (peer c) = other (side c) := by revert c; decide

/-- `peer` as a permutation of the devices. -/
def mirror : Dev nD ≃ Dev nD := ⟨peer, peer, peer_peer, peer_peer⟩

/-- The three places the program computes a target device from its own number: each names the partner. -/
theorem target1 (c : Dev nD) : (⟨k0_dev1 c, k0_dev1_lt c⟩ : Dev nD) = peer c := by
  refine Fin.ext ((k0_dev1_eq c).trans ?_); revert c; decide
/-- The second place: the copy of the branch at coordinate 0. -/
theorem target2 (c : Dev nD) (h : k0_cond1 c = 1#1) : (⟨k0_dev2 c, k0_dev2_lt c h⟩ : Dev nD) = peer c := by
  refine Fin.ext ((k0_dev2_eq c).trans ?_); clear h; revert c; decide
/-- The third place: the copy of the branch at coordinate 1. -/
theorem target3 (c : Dev nD) (h : k0_cond2 c = 1#1) : (⟨k0_dev3 c, k0_dev3_lt c h⟩ : Dev nD) = peer c := by
  refine Fin.ext ((k0_dev3_eq c).trans ?_); clear h; revert c; decide

/-- The two guards of the program ask for the device's coordinate: the first branch runs at 0, the second at 1. -/
theorem guards (c : Dev nD) :
    (side c = 0 ∧ k0_cond1 c = 1#1 ∧ ¬ k0_cond2 c = 1#1) ∨ (side c = 1 ∧ ¬ k0_cond1 c = 1#1 ∧ k0_cond2 c = 1#1) := by
  revert c; decide +kernel

/-! ## Halves of the buffers -/

/-- The staged input block. -/
abbrev xM : Memref sig .tc .vmem S256x512 .bf16 := Memref.whole cc0_stg0_0
/-- The staged result block. -/
abbrev oM : Memref sig .tc .vmem S512x256 .bf16 := Memref.whole cc0_stg1_0
/-- The program's own copy of the input block. -/
abbrev bM : Memref sig .tc .vmem S256x512 .bf16 := Memref.whole cc0_scratch0

/-- Rows `[256 k, 256 k + 256)` of the result block. -/
abbrev rowsAt (k : Fin 2) : Rect S512x256 :=
  Rect.unit (s := S512x256) ![256 * k.val, 0] S256x256.size (by revert k; decide)
/-- Columns `[256 k, 256 k + 256)` of the copied input block. -/
abbrev colsAt (k : Fin 2) : Rect S256x512 :=
  Rect.unit (s := S256x512) ![0, 256 * k.val] S256x256.size (by revert k; decide)

/-- Row half `k` of the result block. -/
abbrev oH (k : Fin 2) : Memref sig .tc .vmem S256x256 .bf16 := oM.slice (rowsAt k) (fun _ => rfl)
/-- Column half `k` of the copied input block. -/
abbrev bH (k : Fin 2) : Memref sig .tc .vmem S256x256 .bf16 := bM.slice (colsAt k) (fun _ => rfl)

/-- The elements of a row half are those of its rectangle. -/
theorem oH_set (k : Fin 2) : (oH k).view.set = (rowsAt k).set := View.set_slice_whole _ _
/-- The elements of a column half are those of its rectangle. -/
theorem bH_set (k : Fin 2) : (bH k).view.set = (colsAt k).set := View.set_slice_whole _ _

/-- An element is in row half `k` when its row, divided by 256, is `k`. -/
theorem mem_rowsAt {k : Fin 2} {i : S512x256.Idx} : i ∈ (rowsAt k).set ↔ (i 0).val / 256 = k.val := by
  rw [Rect.mem_set_unit, Fin.forall_fin_two]
  have h0 : (i 0).val < 512 := (i 0).isLt
  have h1 : (i 1).val < 256 := (i 1).isLt
  have hk := k.isLt
  show (256 * k.val ≤ (i 0).val ∧ (i 0).val < 256 * k.val + 256) ∧ (0 ≤ (i 1).val ∧ (i 1).val < 0 + 256) ↔ _
  omega
/-- An element is in column half `k` when its column, divided by 256, is `k`. -/
theorem mem_colsAt {k : Fin 2} {i : S256x512.Idx} : i ∈ (colsAt k).set ↔ (i 1).val / 256 = k.val := by
  rw [Rect.mem_set_unit, Fin.forall_fin_two]
  have h0 : (i 0).val < 256 := (i 0).isLt
  have h1 : (i 1).val < 512 := (i 1).isLt
  have hk := k.isLt
  show (0 ≤ (i 0).val ∧ (i 0).val < 0 + 256) ∧ (256 * k.val ≤ (i 1).val ∧ (i 1).val < 256 * k.val + 256) ↔ _
  omega

/-- The number of the other half. -/
theorem other_val (k : Fin 2) : (other k).val = 1 - k.val := by revert k; decide

/-- The two row halves share no element, and together are the block; so too the two column halves. -/
theorem rows_disjoint (k : Fin 2) : Disjoint (oH k).view.set (oH (other k)).view.set := by
  rw [oH_set, oH_set, Finset.disjoint_left]
  intro i h h'
  rw [mem_rowsAt] at h h'
  rw [other_val] at h'; have := k.isLt; omega
/-- The two row halves are the whole result block. -/
theorem rows_cover (k : Fin 2) : (oH k).view.set ∪ (oH (other k)).view.set = Finset.univ := by
  rw [oH_set, oH_set, Finset.eq_univ_iff_forall]
  intro i
  rw [Finset.mem_union, mem_rowsAt, mem_rowsAt, other_val]
  have h0 : (i 0).val < 512 := (i 0).isLt
  have := k.isLt; omega
/-- The two column halves share no element. -/
theorem cols_disjoint (k : Fin 2) : Disjoint (bH k).view.set (bH (other k)).view.set := by
  rw [bH_set, bH_set, Finset.disjoint_left]
  intro i h h'
  rw [mem_colsAt] at h h'
  rw [other_val] at h'; have := k.isLt; omega
/-- The two column halves are the whole copied block. -/
theorem cols_cover (k : Fin 2) : (bH k).view.set ∪ (bH (other k)).view.set = Finset.univ := by
  rw [bH_set, bH_set, Finset.eq_univ_iff_forall]
  intro i
  rw [Finset.mem_union, mem_colsAt, mem_colsAt, other_val]
  have h0 : (i 1).val < 512 := (i 1).isLt
  have := k.isLt; omega

/-! ## Contents -/

/-- The element of an input block at a row and a column. -/
def at2 (r : Fin 256) (l : Fin 512) : S256x512.Idx := fun a => match a with
  | ⟨0, _⟩ => r
  | ⟨1, _⟩ => l

/-- An index is determined by its row and its column. -/
theorem at2_eq {i : S256x512.Idx} {r : Fin 256} {l : Fin 512} (h0 : (i 0).val = r.val) (h1 : (i 1).val = l.val) :
    i = at2 r l :=
  funext fun a => match a with
    | ⟨0, _⟩ => Fin.ext h0
    | ⟨1, _⟩ => Fin.ext h1

/-- The 256 × 256 block of `g` that ends, row for row and column for column, on an element of the result: row `i 0`
    counted within its half, column `i 1` counted from the start of column half `j`. -/
def pick (j : Fin 2) (g : S256x512.Idx → Elt F .bf16) (i : S512x256.Idx) : Elt F .bf16 :=
  g (at2 ⟨(i 0).val % 256, Nat.mod_lt _ (by decide)⟩
    ⟨256 * j.val + (i 1).val, by have h : (i 1).val < 256 := (i 1).isLt; have := j.isLt; omega⟩)

/-- Reading column half `j` of `g` and writing it over row half `k` puts `pick j g` on that half. -/
theorem copied (k j : Fin 2) (fd : (cc0_stg1_0 : Ref sig .tc).ty.Contents (Elt F)) (g : (cc0_scratch0 : Ref sig .tc).ty.Contents (Elt F)) :
    ∀ i ∈ (oH k).view.set, (oH k).view.write (Elt F) fd ((bH j).view.read (Elt F) g) Finset.univ i = pick j g i := by
  intro i hi
  obtain ⟨y, rfl⟩ := View.exists_emb_of_mem_set _ hi
  rw [View.write_emb_of_mem _ _ (Finset.mem_univ y)]
  show g ((colsAt j).emb y) = pick j g ((rowsAt k).emb y)
  have y0 : (y 0).val < 256 := (y 0).isLt
  have e0 : ((rowsAt k).emb y 0).val = 256 * k.val + 1 * (y 0).val := rfl
  have e1 : ((rowsAt k).emb y 1).val = 0 + 1 * (y 1).val := rfl
  have f0 : ((colsAt j).emb y 0).val = 0 + 1 * (y 0).val := rfl
  have f1 : ((colsAt j).emb y 1).val = 256 * j.val + 1 * (y 1).val := rfl
  refine congrArg g (at2_eq ?_ ?_)
  · show ((colsAt j).emb y 0).val = ((rowsAt k).emb y 0).val % 256
    omega
  · show ((colsAt j).emb y 1).val = 256 * j.val + ((rowsAt k).emb y 1).val
    omega

/-- The value the program stores into its copy of the input block is the block it loaded. -/
theorem cast_same (v : Vec F S256x512 .bf16) : k0_pay1 v = v := by
  unfold k0_pay1
  exact (shapeCast_self _ _).trans (shapeCast_self _ _)

end Cert.Exchange

end
-- ==== Proof.Protocol.lean ====
/- The protocol of the exchange: three semaphores a device, one arrival on each.

   * The barrier semaphore: the partner's signal. It lends the half of the partner's result block that the
     copy from here will fill.
   * The send semaphore: the copy out of here has been read off. It returns the half that was read.
   * The receive semaphore: the partner's copy has landed. It returns the half of this device's own result block that was
     lent, now holding what the partner sent.

   A kind `k : Fin 3` names one of the three, and every table of the protocol is given by kind. -/
module

public import proofs.«01_k».proof.Proof.Halves

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's rounds and this protocol's. -/
abbrev Gst : Type := UR sig nD τ × UR sig nD τ

local notation "𝕄" => MT nD τ sig Unit (Elt F) ℕ Gst ℕ

/-- The staging pipeline's part of the ghost state. -/
abbrev EPipe : Emb (UR sig nD τ) (MT nD τ sig Unit (Elt F) ℕ Gst ℕ) := embL
/-- The exchange's part of the ghost state. -/
abbrev EX : Emb (UR sig nD τ) (MT nD τ sig Unit (Elt F) ℕ Gst ℕ) := embR

variable (m : (ℓ : Loc nD τ sig) → Buf (Elt F) ℓ)

/-! ## What the buffers hold -/

/-- A device's input block, as its staging buffer holds it when the kernel starts. -/
def inp (c : Dev nD) : (cc0_stg0_0 : Ref sig .tc).ty.Contents (Elt F) :=
  (win0_0.blk (0 : Fin 1)).view.read (Elt F) (m ((c : Thread nD τ).loc main_arg0))

/-- A device's finished result block: on its own row half its own input's columns, on the other half its partner's,
    the columns being those of this device's coordinate in both. -/
def outAt (c : Dev nD) : (cc0_stg1_0 : Ref sig .tc).ty.Contents (Elt F) := fun i =>
  if (i 0).val / 256 = (side c).val then pick (side c) (inp m c) i else pick (side c) (inp m (peer c)) i

/-- On the device's own row half the finished block is its own input's columns. -/
theorem outAt_own (c : Dev nD) : ∀ i ∈ (oH (side c)).view.set, pick (side c) (inp m c) i = outAt m c i := fun i hi => by
  rw [oH_set, mem_rowsAt] at hi
  exact (if_pos hi).symm
/-- On the other row half the finished block is the partner's input's columns. -/
theorem outAt_partner (c : Dev nD) : ∀ i ∈ (oH (other (side c))).view.set, pick (side c) (inp m (peer c)) i = outAt m c i := fun i hi => by
  rw [oH_set, mem_rowsAt, other_val] at hi
  have h := (side c).isLt
  exact (if_neg (by omega)).symm

/-- Ownership of row half `k` of device `c`'s result block, at contents `f`. -/
def outPts (c : Dev nD) (k : Fin 2) (f : Buf (Elt F) ((c : Thread nD τ).loc cc0_stg1_0)) : sProp 𝕄 :=
  ((c : Thread nD τ).loc cc0_stg1_0) ↦[(oH k).view.set]{fullShare} f
/-- Ownership of column half `k` of device `c`'s copy of its input block, at contents `f`. -/
def colPts (c : Dev nD) (k : Fin 2) (f : Buf (Elt F) ((c : Thread nD τ).loc cc0_scratch0)) : sProp 𝕄 :=
  ((c : Thread nD τ).loc cc0_scratch0) ↦[(bH k).view.set]{fullShare} f

/-- A row half may be kept in an invariant. -/
instance outPts_storable (c : Dev nD) (k f) : BI.Storable (upEmb : UEmb _ 𝕄) (outPts (F := F) c k f) := by unfold outPts; infer_instance
/-- A column half may be kept in an invariant. -/
instance colPts_storable (c : Dev nD) (k f) : BI.Storable (upEmb : UEmb _ 𝕄) (colPts (F := F) c k f) := by unfold colPts; infer_instance

/-- A whole result block is its two row halves. -/
theorem outPts_halves (c : Dev nD) (k : Fin 2) (f : Buf (Elt F) ((c : Thread nD τ).loc cc0_stg1_0)) :
    (((c : Thread nD τ).loc cc0_stg1_0) ↦{fullShare} f : sProp 𝕄) ⊣⊢ iprop(outPts c k f ∗ outPts c (other k) f) := by
  unfold outPts
  have h := pointsTo_union (nD := nD) (τ := τ) (sig := sig) (Ix := Unit) (Val := Elt F) (Name := ℕ) (U := Gst) (Lvl := ℕ)
    (ℓ := (c : Thread nD τ).loc cc0_stg1_0) (q := fullShare) (f := f) (rows_disjoint k)
  rwa [rows_cover] at h
/-- A whole copy of an input block is its two column halves. -/
theorem colPts_halves (c : Dev nD) (k : Fin 2) (f : Buf (Elt F) ((c : Thread nD τ).loc cc0_scratch0)) :
    (((c : Thread nD τ).loc cc0_scratch0) ↦{fullShare} f : sProp 𝕄) ⊣⊢ iprop(colPts c k f ∗ colPts c (other k) f) := by
  unfold colPts
  have h := pointsTo_union (nD := nD) (τ := τ) (sig := sig) (Ix := Unit) (Val := Elt F) (Name := ℕ) (U := Gst) (Lvl := ℕ)
    (ℓ := (c : Thread nD τ).loc cc0_scratch0) (q := fullShare) (f := f) (cols_disjoint k)
  rwa [cols_cover] at h

/-! ## Semaphores by kind -/

/-- The barrier semaphore. -/
abbrev barS : Sem sig := (SemArray.scalar (sig.barrier 0 rfl) : Sems sig S_).sem
/-- The semaphore that counts what a copy has read. -/
abbrev sendS : DmaSem sig := (cc0_scratch1 : DmaSems sig S_).sem
/-- The semaphore that counts what a copy has delivered. -/
abbrev recvS : DmaSem sig := (cc0_scratch2 : DmaSems sig S_).sem

/-- The three semaphores, numbered. -/
abbrev semAt : Fin 3 → SemLoc sig := fun
  | 0 => .reg barS
  | 1 => .dma sendS
  | 2 => .dma recvS

/-- Device `c`'s semaphore of kind `k`. -/
abbrev cell (c : Dev nD) (k : Fin 3) : GSem nD τ sig := ((c : Thread nD τ), semAt k)

/-- The kind of a semaphore, where it has one. -/
def kind (s : SemLoc sig) : Option (Fin 3) :=
  if s = semAt 0 then some 0 else if s = semAt 1 then some 1 else if s = semAt 2 then some 2 else none

/-- `kind` reads the number back. -/
theorem kind_semAt (k : Fin 3) : kind (semAt k) = some k := by revert k; decide
/-- Different numbers name different semaphores. -/
theorem semAt_inj : Function.Injective semAt := fun k j h => Option.some.inj ((kind_semAt k).symm.trans ((congrArg kind h).trans (kind_semAt j)))
/-- Different devices or numbers name different counters. -/
theorem cell_inj : Function.Injective fun ck : Dev nD × Fin 3 => cell ck.1 ck.2 := fun a b h =>
  Prod.ext (congrArg (fun g : GSem nD τ sig => g.1.1) h) (semAt_inj (congrArg (fun g : GSem nD τ sig => g.2) h))

/-- What a copy of one half counts on a semaphore. -/
abbrev N : ℕ := (oH 0).view.dmaCredit
/-- A half has at least one unit. -/
theorem N_pos : 0 < N := View.dmaCredit_pos _ (by decide)

/-- The units the one arrival brings, by kind: the signal one, a copy its size. -/
def units : Fin 3 → ℕ := fun
  | 0 => 1
  | 1 => N
  | 2 => N
/-- Every arrival has at least one unit. -/
theorem units_pos (k : Fin 3) : 0 < units k := match k with
  | 0 => Nat.one_pos
  | 1 => N_pos
  | 2 => N_pos

/-- What the one arrival hands to the device that waits for it, by kind. -/
def pay (c : Dev nD) : Fin 3 → sProp 𝕄 := fun
  | 0 => iprop(∃ f, outPts (peer c) (side c) f)
  | 1 => colPts c (other (side c)) (inp m c)
  | 2 => outPts c (other (side c)) (outAt m c)

/-- Each payload may be kept in an invariant. -/
instance pay_storable (c : Dev nD) (k : Fin 3) : BI.Storable (upEmb : UEmb _ 𝕄) (pay m c k) := by
  match k with
  | 0 => unfold pay; infer_instance
  | 1 => unfold pay; infer_instance
  | 2 => unfold pay; infer_instance

/-! ## The schedule -/

/-- One round, one arrival: its size and what it hands over by the semaphore's kind. -/
def sched : Rounds.Schedule (GSem nD τ sig) Unit 𝕄 where
  duties _ r := if r = 0 then {()} else ∅
  unitless _ := False
  amount g _ _ := (kind g.2).elim 1 units
  payload g _ _ := (kind g.2).elim iprop(emp) (pay m g.1.1)
  amount_pos g _ _ _ := by
    cases kind g.2 with
    | none => exact Nat.one_pos
    | some k => exact units_pos k

/-- The same, as the schedule states it. -/
instance sched_storable (g : GSem nD τ sig) (r : ℕ) (d : Unit) : BI.Storable (upEmb : UEmb _ 𝕄) ((sched m).payload g r d) := by
  show BI.Storable upEmb ((kind g.2).elim iprop(emp) (pay m g.1.1))
  cases kind g.2 with
  | none => show BI.Storable upEmb iprop(emp); infer_instance
  | some k => exact pay_storable m g.1.1 k

section Tables
variable (c : Dev nD) (k : Fin 3)

/-- Round 0 has its one duty. -/
theorem duty_mem (g : GSem nD τ sig) : () ∈ (sched m).duties g 0 := Finset.mem_singleton_self ()
/-- No later round has a duty. -/
theorem no_later (g : GSem nD τ sig) : ∀ r, 0 + 1 ≤ r → (sched m).duties g r = ∅ := fun r h => if_neg (by omega)
/-- The amount of the one duty of a semaphore. -/
theorem amount_cell : (sched m).amount (cell c k) 0 () = units k := by
  show (kind (semAt k)).elim 1 units = units k
  rw [kind_semAt]; rfl
/-- What the one duty of a semaphore hands over. -/
theorem payload_cell : (sched m).payload (cell c k) 0 () = pay m c k := by
  show (kind (semAt k)).elim iprop(emp) (pay m c) = pay m c k
  rw [kind_semAt]; rfl
/-- The units that round 0 of a semaphore waits for. -/
theorem expect_cell : (sched m).expect (cell c k) 0 = units k := by
  show ∑ d ∈ ({()} : Finset Unit), (sched m).amount (cell c k) 0 d = units k
  rw [Finset.sum_singleton, amount_cell]
/-- What a wait for the whole round hands over. -/
theorem rest_cell : bigSep ((sched m).duties (cell c k) 0 \ ∅) (fun d => (sched m).payload (cell c k) 0 d) = pay m c k := by
  rw [Finset.sdiff_empty]
  show bigSep ({()} : Finset Unit) _ = _
  rw [bigSep_singleton, payload_cell]

end Tables

/-! ## What a device owes, and the order of waiting -/

/-- At launch a device owes its partner one landing and one signal. -/
def owed₀ (c : Dev nD) : CellTallies nD τ sig Unit := tallyAt (cell (peer c) 2) () N + tallyAt (cell (peer c) 0) () 1

/-- The counters that have a place in the order of waiting: the TensorCores'. -/
def idx (g : GSem nD τ sig) : Finset Unit := if g.1.2 = .tc then {()} else ∅
/-- Other counters have none. -/
theorem idx_off (g : GSem nD τ sig) (h : g.1.2 ≠ .tc) : idx g = ∅ := if_neg h
/-- Every TensorCore's counter has one. -/
theorem idx_on (c : Dev nD) (s : SemLoc sig) : () ∈ idx ((c : Thread nD τ), s) := Finset.mem_singleton_self ()

/-- The order of waiting by kind: the barrier below the landing, all else below both. -/
def rank : Option (Fin 3) → ℕ := fun
  | some 0 => 1
  | some 2 => 2
  | _ => 0
/-- A counter's place in the order of waiting. -/
def level (g : GSem nD τ sig) (_ : Unit) : ℕ := rank (kind g.2)
/-- The place of each of the three. -/
theorem level_cell (c : Dev nD) (k : Fin 3) (u : Unit) : level (cell c k) u = rank (some k) := congrArg rank (kind_semAt k)

/-- A tally at one counter is positive at that counter only. -/
theorem tally_pos {g h : GSem nD τ sig} {n : ℕ} {u : Unit} (hp : 0 < (tallyAt h () n : CellTallies nD τ sig Unit) g u) : g = h := by
  by_contra hn
  rw [tallyAt_apply, if_neg fun h' => hn h'.1] at hp
  exact Nat.lt_irrefl 0 hp

/-- A device owes units only on its partner's barrier and landing counters. -/
theorem owed_pos {c : Dev nD} {g : GSem nD τ sig} {u : Unit} (h : 0 < owed₀ c g u) : ∃ k : Fin 3, (k = 0 ∨ k = 2) ∧ g = cell (peer c) k := by
  unfold owed₀ at h
  rw [Pi.add_apply, Finsupp.add_apply] at h
  rcases Nat.eq_zero_or_pos ((tallyAt (cell (peer c) 2) () N : CellTallies nD τ sig Unit) g u) with h0 | h0
  · rw [h0, Nat.zero_add] at h
    exact ⟨0, .inl rfl, tally_pos h⟩
  · exact ⟨2, .inr rfl, tally_pos h0⟩

/-- A device that still owes its partner both may wait on a semaphore of the lowest rank. -/
theorem may_low (c : Dev nD) (s : SemLoc sig) (hs : rank (kind s) = 0) : (levAts idx level : sProp 𝕄) ⊢ MayWait (c : Thread nD τ) s () (owed₀ c) :=
  Pipeline.mayWait_of_levAts (idx_on c s) fun g u h => by
    obtain ⟨k, hk, rfl⟩ := owed_pos h
    refine ⟨idx_on _ _, ?_⟩
    rw [level_cell, show level ((c : Thread nD τ), s) () = 0 from hs]
    rcases hk with rfl | rfl <;> decide

/-- A device that owes its partner the landing may wait on its barrier semaphore. -/
theorem may_bar (c : Dev nD) : (levAts idx level : sProp 𝕄) ⊢ MayWait (c : Thread nD τ) (.reg barS) () (tallyAt (cell (peer c) 2) () N) :=
  Pipeline.mayWait_of_levAts (idx_on c _) fun g u h => by
    rw [tally_pos h]
    refine ⟨idx_on _ _, ?_⟩
    rw [level_cell, show level ((c : Thread nD τ), .reg barS) () = 1 from level_cell c 0 ()]
    decide

/-- A device that owes nothing may wait. -/
theorem may_none (c : Dev nD) (s : SemLoc sig) : (iprop(emp) : sProp 𝕄) ⊢ MayWait (c : Thread nD τ) s () 0 := by
  rw [MayWait_zero]; exact BI.Entails.refl _

end Cert.Exchange

end
-- ==== Proof.Body.lean ====
/- The kernel's body, run on one device under the protocol: signal, copy the block, wait for the partner, send one half and
   write the other, wait for both ends of the exchange. One theorem runs the exchange for either coordinate; the
   program's two guarded branches are its two instances. -/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Gst ℕ

variable (m : (ℓ : Loc nD τ sig) → Buf (Elt F) ℓ)

/-- The program has no loop that needs a variant. -/
abbrev noVariants : Variants := Variants.none

/-! ## The ghost state a device starts with -/

/-- The invariants a device uses, at names `K`: of its own three semaphores, and of its partner's barrier and receive
    semaphores, which it pays. -/
def invs (K : Dev nD × Fin 3 → ℕ) (c : Dev nD) : sProp 𝕄 :=
  iprop((bigSep Finset.univ fun k : Fin 3 => cellInv EX (sched m) (K (c, k)) (cell c k))
    ∗ bigSep Finset.univ fun k : Fin 3 => cellInv EX (sched m) (K (peer c, k)) (cell (peer c) k))
/-- Invariants are knowledge. -/
instance invs_persistent (K : Dev nD × Fin 3 → ℕ) (c : Dev nD) : BI.Persistent (invs m K c) := by unfold invs; infer_instance

/-- That round 0 is open on a device's own semaphores and on its partner's. -/
def opens (c : Dev nD) : sProp 𝕄 :=
  iprop((bigSep Finset.univ fun k : Fin 3 => reached EX (cell c k) 0) ∗ bigSep Finset.univ fun k : Fin 3 => reached EX (cell (peer c) k) 0)
/-- So are the opened rounds. -/
instance opens_persistent (c : Dev nD) : BI.Persistent (opens (F := F) c) := by unfold opens; infer_instance

/-- The invariant of one of the device's own counters. -/
theorem inv_own (K : Dev nD × Fin 3 → ℕ) (c : Dev nD) (k : Fin 3) : invs m K c ⊢ cellInv EX (sched m) (K (c, k)) (cell c k) := by
  unfold invs; exact (Laws.sep_elim_left).trans (bigSep_elim (Φ := fun j : Fin 3 => cellInv EX (sched m) (K (c, j)) (cell c j)) (Finset.mem_univ k))
/-- The invariant of one of the partner's counters. -/
theorem inv_partner (K : Dev nD × Fin 3 → ℕ) (c : Dev nD) (k : Fin 3) : invs m K c ⊢ cellInv EX (sched m) (K (peer c, k)) (cell (peer c) k) := by
  unfold invs; exact (Laws.sep_elim_right).trans (bigSep_elim (Φ := fun j : Fin 3 => cellInv EX (sched m) (K (peer c, j)) (cell (peer c) j)) (Finset.mem_univ k))
/-- Round 0 of an own counter is open. -/
theorem open_own (c : Dev nD) (k : Fin 3) : opens (F := F) c ⊢ reached EX (cell c k) 0 := by
  unfold opens; exact (Laws.sep_elim_left).trans (bigSep_elim (Φ := fun j : Fin 3 => reached EX (cell c j) 0) (Finset.mem_univ k))
/-- Round 0 of one of the partner's counters is open. -/
theorem open_partner (c : Dev nD) (k : Fin 3) : opens (F := F) c ⊢ reached EX (cell (peer c) k) 0 := by
  unfold opens; exact (Laws.sep_elim_right).trans (bigSep_elim (Φ := fun j : Fin 3 => reached EX (cell (peer c) j) 0) (Finset.mem_univ k))

/-- A device's place on one of its semaphores: round `r`, nothing of it taken yet. -/
abbrev place (c : Dev nD) (k : Fin 3) (r : ℕ) : sProp 𝕄 := atPos EX (cell c k) r ∅ 0

/-- The right to make one arrival. -/
abbrev ticket (c : Dev nD) (k : Fin 3) : sProp 𝕄 := dutyTok EX (cell c k) 0 ()

/-! ## The exchange -/

section Steps
variable (K : Dev nD × Fin 3 → ℕ)

/-- Every half counts the same on a semaphore. -/
theorem credit_half (k : Fin 2) (s : DmaSem sig) : (oH k).view.amount (.dma s) = N := rfl

/-- What the landing of a half at the partner leaves there is the partner's finished contents on that half. -/
theorem landed (c : Dev nD) (f : Buf (Elt F) ((peer c : Thread nD τ).loc cc0_stg1_0)) :
    (((peer c : Thread nD τ).loc cc0_stg1_0) ↦[(oH (side c)).view.set]{fullShare}
        (oH (side c)).view.write (Elt F) f ((bH (other (side c))).view.read (Elt F) (inp m c)) Finset.univ : sProp 𝕄)
      ⊢ pay m (peer c) 2 := by
  show _ ⊢ outPts (peer c) (other (side (peer c))) (outAt m (peer c))
  unfold outPts
  have hs : other (side (peer c)) = side c := by rw [side_peer, other_other]
  have ho := outAt_partner m (peer c)
  rw [hs, peer_peer, side_peer] at ho
  rw [hs]
  exact Entails.of_eq (pointsTo_congr fun i hi => (copied (side c) (other (side c)) f (inp m c) i hi).trans (ho i hi))

/-- The copy of a half to the partner: it takes the half it reads and the half it writes. -/
theorem send_half (c n : Dev nD) (hn : n = peer c) {hsc : (oH (side c) : Memref sig (Dev.tc n : Thread nD τ).2.kind .vmem S256x256 .bf16).view.ref.isScScratch = false}
    {hsrc : (bH (other (side c))).view.WordExact} {hdst : (oH (side c)).view.WordExact}
    {hsem : DmaTarget.Typed .vmem (.dma recvS) (.remote (Dev.tc n : Thread nD τ) (oH (side c)) (.dma sendS) hsc)}
    {α : Type} {Q : α → sProp 𝕄} {kont : PUnit → Prog (TpuEff nD τ sig (Elt F) Λ₀ .tc) α}
    (f : Buf (Elt F) ((peer c : Thread nD τ).loc cc0_stg1_0)) (W : Waits sig Unit) :
    iprop(cellInv EX (sched m) (K (c, 1)) (cell c 1) ∗ cellInv EX (sched m) (K (peer c, 2)) (cell (peer c) 2)
        ∗ colPts c (other (side c)) (inp m c) ∗ outPts (peer c) (side c) f ∗ owes (c : Thread nD τ) (tallyAt (cell (peer c) 2) () N) W
        ∗ ticket c 1 ∗ reached EX (cell c 1) 0 ∗ ticket (peer c) 2 ∗ reached EX (cell (peer c) 2) 0)
      ⊢ iprop(((cred (tallyAt (cell c 1) () N) ∗ owes (c : Thread nD τ) 0 W) -∗ wp frame (wpE (defs₀ (F := F)) noVariants (c : Thread nD τ) none) Set.univ (kont ⟨⟩) Q)
          -∗ wp frame (wpE (defs₀ (F := F)) noVariants (c : Thread nD τ) none) Set.univ
              (.op (.enqueueDma (bH (other (side c))) (.remote (Dev.tc n : Thread nD τ) (oH (side c)) (.dma sendS) hsc) (.dma recvS) hsrc hdst hsem) kont) Q) := by
  subst hn
  unfold colPts outPts
  have h1 : (sched m).amount ((c : Thread nD τ), .dma sendS) 0 () = N := amount_cell m c 1
  have h2 : (sched m).amount ((peer c : Thread nD τ), .dma recvS) 0 () = N := amount_cell m (peer c) 2
  have p1 : (((c : Thread nD τ).loc cc0_scratch0) ↦[(bH (other (side c))).view.set]{fullShare} inp m c : sProp 𝕄)
      ⊢ (sched m).payload ((c : Thread nD τ), .dma sendS) 0 () := Entails.of_eq (payload_cell m c 1).symm
  have p2 := (landed m c f).trans (Entails.of_eq (payload_cell m (peer c) 2).symm)
  exact Rounds.wp_send_pointsTo noVariants EX (sched m) (c : Thread nD τ) none (κ₁ := K (c, 1)) (κ₂ := K (peer c, 2))
    (c' := (peer c : Thread nD τ)) (src := bH (other (side c))) (dst := oH (side c)) (sS := .dma sendS) (sem := .dma recvS)
    (r₁ := 0) (r₂ := 0) (d₁ := ()) (d₂ := ()) (fs := inp m c) (fd := f) (duty_mem m _) (duty_mem m _)
    () () N (credit_half _ _) h1 h2 0 (by rw [zero_add]) (W := W) p1 p2

/-- What a device holds as the exchange begins: it has signalled and been signalled. -/
def before (c : Dev nD) (W : Waits sig Unit) : sProp 𝕄 :=
  iprop(invs m K c ∗ opens c ∗ place c 0 1 ∗ place c 1 0 ∗ place c 2 0 ∗ ticket c 1 ∗ ticket (peer c) 2
    ∗ cred (tallyAt (cell c 2) () N) ∗ owes (c : Thread nD τ) (tallyAt (cell (peer c) 2) () N) W
    ∗ colPts c (side c) (inp m c) ∗ colPts c (other (side c)) (inp m c)
    ∗ (∃ f, outPts c (side c) f) ∗ ∃ f, outPts (peer c) (side c) f)

/-- What it holds when the exchange is over: its copy of the input as it was, its result block finished, nothing owed, its three
    semaphores at zero. -/
def finished (c : Dev nD) : sProp 𝕄 :=
  iprop((((c : Thread nD τ).loc cc0_scratch0) ↦{fullShare} inp m c)
    ∗ (((c : Thread nD τ).loc cc0_stg1_0) ↦{fullShare} outAt m c)
    ∗ (∃ W, owes (c : Thread nD τ) 0 W)
    ∗ semVal (cell c 0) 0 ∗ semVal (cell c 1) 0 ∗ semVal (cell c 2) 0)

/-- What the local store leaves on a device's own half is its finished contents there. -/
theorem kept (c : Dev nD) (f : Buf (Elt F) ((c : Thread nD τ).loc cc0_stg1_0)) :
    (((c : Thread nD τ).loc cc0_stg1_0) ↦[(oH (side c)).view.set]{fullShare}
        (oM.access (rowsAt (side c)) : View sig .tc _ _ _).write (Elt F) f (bM.view.readAt (Elt F) (colsAt (side c)).toLoadRect (inp m c)) Finset.univ : sProp 𝕄)
      ⊢ outPts c (side c) (outAt m c) := by
  unfold outPts
  exact Entails.of_eq (pointsTo_congr fun i hi => (copied (side c) (side c) f (inp m c) i hi).trans (outAt_own m c i hi))

/-- A load of a column half reads elements of that half only. -/
theorem cols_loaded (k : Fin 2) : bM.view.setOn (colsAt k).toLoadRect.set ⊆ (bH k).view.set := (View.set_slice _ _).symm.subset
/-- The same of a row half. -/
theorem rows_loaded (k : Fin 2) : oM.view.setOn (rowsAt k).toLoadRect.set ⊆ (oH k).view.set := (View.set_slice _ _).symm.subset

/-- Each of the two waits asks for the whole of its round. -/
theorem send_whole (c : Dev nD) (j : Fin 2) : 0 + (bH j).view.dmaCredit = (sched m).expect ((c : Thread nD τ), .dma sendS) 0 := by
  have h : (bH j).view.dmaCredit = N := rfl
  rw [Nat.zero_add, h]
  exact (expect_cell m c 1).symm
/-- A wait for one landed half takes all of round 0. -/
theorem recv_whole (c : Dev nD) (j : Fin 2) : 0 + (oH j).view.dmaCredit = (sched m).expect ((c : Thread nD τ), .dma recvS) 0 := by
  have h : (oH j).view.dmaCredit = N := rfl
  rw [Nat.zero_add, h]
  exact (expect_cell m c 2).symm

set_option maxHeartbeats 800000 in
/-- The exchange, at a device of either coordinate. -/
theorem exchange_run (c n : Dev nD) (hn : n = peer c) (k : Fin 2) (hk : side c = k) (W : Waits sig Unit)
    {hsc : (oH k : Memref sig (Dev.tc n : Thread nD τ).2.kind .vmem S256x256 .bf16).view.ref.isScScratch = false}
    {hsrc : (bH (other k)).view.WordExact} {hdst : (oH k).view.WordExact}
    {hsem : DmaTarget.Typed .vmem (.dma recvS) (.remote (Dev.tc n : Thread nD τ) (oH k) (.dma sendS) hsc)}
    {hlb : bM.view.LoadsAt (colsAt k).toLoadRect} {hlo : oM.view.LoadsAt (rowsAt k).toLoadRect}
    {hst : (oM.access (rowsAt k)).Stores Finset.univ} {hm : (Finset.univ : Finset (rowsAt k).shape.Idx) = Finset.univ ∨ ∀ a, (rowsAt k).stride a = 1}
    {w1 : (oH k).view.WordExact} {w2 : (bH (other k)).view.WordExact} {w3 : (bH (other k)).view.WordExact} {w4 : (oH k).view.WordExact}
    (Q : PUnit → sProp 𝕄) :
    iprop(before m K c W ∗ (finished m c -∗ Q ⟨⟩))
      ⊢ wp frame (wpE (defs₀ (F := F)) noVariants (c : Thread nD τ) none) Set.univ
          (.op (.enqueueDma (bH (other k)) (.remote (Dev.tc n : Thread nD τ) (oH k) (.dma sendS) hsc) (.dma recvS) hsrc hdst hsem) fun _ =>
            .op (.load bM (colsAt k).toLoadRect hlb) fun v =>
            .op (.load oM (rowsAt k).toLoadRect hlo) fun _ =>
            .op (.store oM (rowsAt k) v Finset.univ hst hm) fun _ =>
            .op (.waitDma2 sendS (oH k) (bH (other k)) w1 w2) fun _ =>
            .op (.waitDma2 recvS (bH (other k)) (oH k) w3 w4) fun _ => .ret ⟨⟩ : Prog (TpuEff nD τ sig (Elt F) Λ₀ .tc) PUnit) Q := by
  subst hk
  unfold before finished
  iintro ⟨⟨#HI, #HR, Ha0, Ha1, Ha2, Ht1, Ht2, Hc2, HO, Hkeep, Hgive, ⟨%f, Hout⟩, ⟨%g, Hlend⟩⟩, Hk⟩
  iapply (send_half m K c n hn g W) $$ [Hgive Hlend HO Ht1 Ht2]
  · isplitr; · iapply (inv_own m K c 1); iexact HI
    isplitr; · iapply (inv_partner m K c 2); iexact HI
    isplitl [Hgive]; · iexact Hgive
    isplitl [Hlend]; · iexact Hlend
    isplitl [HO]; · iexact HO
    isplitl [Ht1]; · iexact Ht1
    isplitr; · iapply (open_own c 1); iexact HR
    isplitl [Ht2]; · iexact Ht2
    iapply (open_partner c 2); iexact HR
  iintro ⟨Hc1, HO⟩
  unfold colPts outPts
  iapply (wp_load noVariants (c : Thread nD τ) none Set.univ (m := bM) (cols_loaded (side c))) $$ Hkeep; iintro Hkeep
  iapply (wp_load noVariants (c : Thread nD τ) none Set.univ (m := oM) (rows_loaded (side c))) $$ Hout; iintro Hout
  iapply (wp_store noVariants (c : Thread nD τ) none Set.univ (m := oM) (r := rowsAt (side c)) (Mk := Finset.univ)
      (S := (oH (side c)).view.set) (f := f) (subset_refl _)) $$ Hout; iintro Hout
  ihave Hown := (kept m c f) $$ Hout
  iapply (Rounds.wp_wait_rest_token noVariants EX (sched m) (c : Thread nD τ) none (κ := K (c, 1))
      (wpE_waitDma2_eq noVariants (c : Thread nD τ) none Set.univ) (Set.mem_univ _) () (O := 0) (W := W) (R := 0) (m := 0) (T := ∅)
      (send_whole m c (other (side c)))) $$ [Hc1 HO Ha1]
  · isplitr; · iapply (inv_own m K c 1); iexact HI
    isplitl [Hc1]; · iexact Hc1
    isplitl [HO]; · iexact HO
    isplitr; · iapply (may_none (F := F) c (.dma sendS)); iempintro
    iexact Ha1
  iintro ⟨HO, Ha1, -, Hpay⟩
  ihave Hback := (Entails.of_eq ((rest_cell m c 1).trans (show pay m c 1 = colPts c (other (side c)) (inp m c) from rfl))) $$ Hpay
  iapply (Rounds.wp_wait_rest_token noVariants EX (sched m) (c : Thread nD τ) none (κ := K (c, 2))
      (wpE_waitDma2_eq noVariants (c : Thread nD τ) none Set.univ) (Set.mem_univ _) () (O := 0) (W := insert (SemLoc.dma sendS, ()) W) (R := 0) (m := 0) (T := ∅)
      (recv_whole m c (side c))) $$ [Hc2 HO Ha2]
  · isplitr; · iapply (inv_own m K c 2); iexact HI
    isplitl [Hc2]; · iexact Hc2
    isplitl [HO]; · iexact HO
    isplitr; · iapply (may_none (F := F) c (.dma recvS)); iempintro
    iexact Ha2
  iintro ⟨HO, Ha2, -, Hpay⟩
  ihave Hland := (Entails.of_eq ((rest_cell m c 2).trans (show pay m c 2 = outPts c (other (side c)) (outAt m c) from rfl))) $$ Hpay
  imod (Rounds.cell_close EX (sched m) (g := cell c 0) (Set.mem_univ (K (c, 0))) (fun h => h) (R := 0 + 1) (no_later m _)) $$ [Ha0] with Hz0
  · isplitr; · iapply (inv_own m K c 0); iexact HI
    iexact Ha0
  imod (Rounds.cell_close EX (sched m) (g := cell c 1) (Set.mem_univ (K (c, 1))) (fun h => h) (R := 0 + 1) (no_later m _)) $$ [Ha1] with Hz1
  · isplitr; · iapply (inv_own m K c 1); iexact HI
    iexact Ha1
  imod (Rounds.cell_close EX (sched m) (g := cell c 2) (Set.mem_univ (K (c, 2))) (fun h => h) (R := 0 + 1) (no_later m _)) $$ [Ha2] with Hz2
  · isplitr; · iapply (inv_own m K c 2); iexact HI
    iexact Ha2
  rw [wp_ret]; imodintro
  iapply Hk
  isplitl [Hkeep Hback]
  · iapply (colPts_halves c (side c) (inp m c)).2
    isplitl [Hkeep]
    · unfold colPts; iexact Hkeep
    iexact Hback
  isplitl [Hown Hland]
  · iapply (outPts_halves c (side c) (outAt m c)).2
    isplitl [Hown]
    · iexact Hown
    iexact Hland
  isplitl [HO]; · iexists _; iexact HO
  isplitl [Hz0]; · iexact Hz0
  isplitl [Hz1] <;> iassumption

/-- What a device holds when its body starts, besides its buffers: the protocol's state, what it owes, what it is owed. -/
def entry (c : Dev nD) (W : Waits sig Unit) : sProp 𝕄 :=
  iprop(invs m K c ∗ opens c ∗ place c 0 0 ∗ place c 1 0 ∗ place c 2 0 ∗ ticket (peer c) 0 ∗ ticket c 1 ∗ ticket (peer c) 2
    ∗ cred (tallyAt (cell c 0) () 1) ∗ cred (tallyAt (cell c 2) () N) ∗ levAts idx level ∗ owes (c : Thread nD τ) (owed₀ c) W)

/-- The offsets of a whole block. -/
theorem zeros : (![0, 0] : Fin 2 → Nat) = fun _ => 0 := funext fun a => by fin_cases a <;> rfl

/-- The whole-block load of the input reads the block; the whole-block store into the copy leaves what is stored. -/
theorem load_inp (f : (cc0_stg0_0 : Ref sig .tc).ty.Contents (Elt F)) :
    xM.view.readAt (Elt F) (Rect.unit (s := S256x512) ![0, 0] S256x512.size inb_S256x512_S256x512_0_0).toLoadRect f = f :=
  Memref.readAt_unit_zero (Elt F) cc0_stg0_0 zeros _ f
/-- A store of a whole block leaves the stored value. -/
theorem store_copy (f w : (cc0_scratch0 : Ref sig .tc).ty.Contents (Elt F)) :
    (bM.access (Rect.unit (s := S256x512) ![0, 0] S256x512.size inb_S256x512_S256x512_0_0) : View sig .tc _ _ _).write (Elt F) f w Finset.univ = w :=
  Memref.write_access_unit_zero_univ (Elt F) cc0_scratch0 zeros _ f w

/-- The lent half, as the barrier's arrival carries it. -/
theorem lend (c : Dev nD) (f : Buf (Elt F) ((c : Thread nD τ).loc cc0_stg1_0)) :
    outPts c (other (side c)) f ⊢ (sched m).payload (cell (peer c) 0) 0 () := by
  rw [payload_cell]
  show _ ⊢ iprop(∃ f, outPts (peer (peer c)) (side (peer c)) f)
  rw [peer_peer, side_peer]
  iintro H; iexists f; iexact H

set_option maxHeartbeats 1600000 in
/-- The kernel's body on device `c`: from the protocol's state, its input block, and its other two buffers at any contents, to the
    finished result and its input block as it was. -/
theorem body_run (c : Dev nD) (W : Waits sig Unit) (Q : PUnit → sProp 𝕄) :
    iprop((entry m K c W ∗ (((c : Thread nD τ).loc cc0_stg0_0) ↦{fullShare} inp m c)
        ∗ (∃ f : Buf (Elt F) ((c : Thread nD τ).loc cc0_stg1_0), ((c : Thread nD τ).loc cc0_stg1_0) ↦{fullShare} f)
        ∗ ∃ f : Buf (Elt F) ((c : Thread nD τ).loc cc0_scratch0), ((c : Thread nD τ).loc cc0_scratch0) ↦{fullShare} f)
        ∗ (iprop(finished m c ∗ (((c : Thread nD τ).loc cc0_stg0_0) ↦{fullShare} inp m c)) -∗ Q ⟨⟩))
      ⊢ wp frame (wpE (defs₀ (F := F)) noVariants (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Q := by
  simp only [cc0_body_eq_skeleton]; unfold cc0_body_skel
  simp only [semSignalWord, semWaitWord, Prog.lift, Prog.bind_op, Prog.bind_ret, Prog.pure_eq_ret, wp_deviceId, target1 c]
  unfold entry
  iintro ⟨⟨⟨#HI, #HR, Ha0, Ha1, Ha2, Ht0, Ht1, Ht2, Hc0, Hc2, #Hlev, HO⟩, Hx, ⟨%f, Hout⟩, ⟨%b, Hb⟩⟩, Hk⟩
  ihave Hhalves := ((outPts_halves c (side c) f).1) $$ Hout
  icases Hhalves with ⟨Hown, Hlend⟩
  iapply (Rounds.wp_signal noVariants EX (sched m) (c : Thread nD τ) none (dst := (peer c : Thread nD τ)) (κ := K (peer c, 0))
      (duty_mem m _) ((amount_cell m (peer c) 0).trans (by decide)) () (tallyAt (cell (peer c) 2) () N) rfl) $$ [HO Ht0 Hlend]
  · isplitr; · iapply (inv_partner m K c 0); iexact HI
    isplitl [HO]; · iexact HO
    isplitl [Ht0]; · iexact Ht0
    isplitl [Hlend]; · iapply (lend m c f); iexact Hlend
    iapply (open_partner c 0); iexact HR
  iintro HO
  iapply (wp_load noVariants (c : Thread nD τ) none Set.univ (m := xM) (Finset.subset_univ _)) $$ Hx; iintro Hx
  rw [load_inp]
  iapply (wp_load noVariants (c : Thread nD τ) none Set.univ (m := bM) (Finset.subset_univ _)) $$ Hb; iintro Hb
  iapply (wp_store noVariants (c : Thread nD τ) none Set.univ (m := bM)
      (r := Rect.unit (s := S256x512) ![0, 0] S256x512.size inb_S256x512_S256x512_0_0) (Mk := Finset.univ) (f := b) (Finset.subset_univ _)) $$ Hb; iintro Hb
  rw [store_copy, cast_same]
  iapply (Rounds.wp_wait_rest_token noVariants EX (sched m) (c : Thread nD τ) none (κ := K (c, 0))
      (wpE_semWait_eq noVariants (c : Thread nD τ) none Set.univ) (Set.mem_univ _) () (O := tallyAt (cell (peer c) 2) () N) (W := W) (R := 0) (m := 0) (T := ∅)
      ((show 0 + (1#32 : BitVec 32).toNat = units 0 from rfl).trans (expect_cell m c 0).symm)) $$ [Hc0 HO Ha0]
  · isplitr; · iapply (inv_own m K c 0); iexact HI
    isplitl [Hc0]; · iexact Hc0
    isplitl [HO]; · iexact HO
    isplitr; · iapply (may_bar c); iexact Hlev
    iexact Ha0
  iintro ⟨HO, Ha0, -, Hpay⟩
  ihave Hlent := (Entails.of_eq ((rest_cell m c 0).trans (show pay m c 0 = iprop(∃ f, outPts (peer c) (side c) f) from rfl))) $$ Hpay
  ihave Hhalves := ((colPts_halves c (side c) (inp m c)).1) $$ Hb
  icases Hhalves with ⟨Hkeep, Hgive⟩
  ihave Hbefore := (show iprop(invs m K c ∗ opens c ∗ place c 0 1 ∗ place c 1 0 ∗ place c 2 0 ∗ ticket c 1 ∗ ticket (peer c) 2
    ∗ cred (tallyAt (cell c 2) () N) ∗ owes (c : Thread nD τ) (tallyAt (cell (peer c) 2) () N) (insert (SemLoc.reg barS, ()) W)
    ∗ colPts c (side c) (inp m c) ∗ colPts c (other (side c)) (inp m c)
    ∗ (∃ f, outPts c (side c) f) ∗ ∃ f, outPts (peer c) (side c) f) ⊢ before m K c (insert (SemLoc.reg barS, ()) W) from BI.Entails.refl _)
      $$ [HO Ha0 Ha1 Ha2 Ht1 Ht2 Hc2 Hkeep Hgive Hown Hlent]
  · isplitr; · iexact HI
    isplitr; · iexact HR
    isplitl [Ha0]; · iexact Ha0
    isplitl [Ha1]; · iexact Ha1
    isplitl [Ha2]; · iexact Ha2
    isplitl [Ht1]; · iexact Ht1
    isplitl [Ht2]; · iexact Ht2
    isplitl [Hc2]; · iexact Hc2
    isplitl [HO]; · iexact HO
    isplitl [Hkeep]; · iexact Hkeep
    isplitl [Hgive]; · iexact Hgive
    isplitl [Hown]; · iexists f; iexact Hown
    iexact Hlent
  iclear HI; iclear HR; iclear Hlev
  rcases guards c with ⟨hs, h1, h2⟩ | ⟨hs, h1, h2⟩
  · simp only [dif_pos h1, dif_neg h2, Prog.bind_op, Prog.bind_ret]
    iapply (exchange_run m K c _ (target2 c h1) 0 hs (insert (SemLoc.reg barS, ()) W) Q)
    isplitl [Hbefore]; · iexact Hbefore
    iintro Hf; iapply Hk
    isplitl [Hf]; · iexact Hf
    iexact Hx
  · simp only [dif_neg h1, dif_pos h2, Prog.bind_op, Prog.bind_ret]
    iapply (exchange_run m K c _ (target3 c h2) 1 hs (insert (SemLoc.reg barS, ()) W) Q)
    isplitl [Hbefore]; · iexact Hbefore
    iintro Hf; iapply Hk
    isplitl [Hf]; · iexact Hf
    iexact Hx

end Steps

end Cert.Exchange

end
-- ==== Proof.Launch.lean ====
/- The launch: every device's semaphores enter the protocol, the rights to arrive change hands between partners, the kernel's
   body runs on each device, and the run ends with each device's arrays as computed and every semaphore at zero. -/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Gst ℕ

variable (m : (ℓ : Loc nD τ sig) → Buf (Elt F) ℓ) (ρ : Dev nD → PrngReg)

/-! ## The staging pipeline's data -/

/-- A product over three numbers, spelt out. -/
theorem fin3 (Φ : Fin 3 → sProp 𝕄) : bigSep Finset.univ Φ = iprop(Φ 0 ∗ Φ 1 ∗ Φ 2) := bigSep_univ_eq_bigSepL [0, 1, 2] (by decide) (by decide) Φ

/-- What the launch leaves with device `c` for its body: the protocol's state at some invariant names, what the device is owed, and
    the order of waiting. -/
def dealt (c : Dev nD) : sProp 𝕄 :=
  iprop(∃ K, invs m K c ∗ opens c ∗ (bigSep Finset.univ fun k : Fin 3 => place c k 0) ∗ ticket (peer c) 0 ∗ ticket c 1 ∗ ticket (peer c) 2)
/-- The whole of what a device starts its body with, the buffers apart. -/
def start (c : Dev nD) : sProp 𝕄 :=
  iprop(dealt m c ∗ cred (tallyAt (cell c 0) () 1) ∗ cred (tallyAt (cell c 2) () N) ∗ levAts idx level)

/-- Beside the staged windows: before the body, the launch's share and the copy buffer at any contents; after it, the copy buffer
    and the three semaphores at zero. -/
def dats (_ : Fin 1) (c : Dev nD) : Dat τ (Elt F) Unit ℕ Gst ℕ cfg0 c where
  A w := m ((cfg0.win w).arr.view.loc (c : Thread nD τ))
  after w _ := match w with
    | ⟨0, _⟩ => inp m c
    | ⟨1, _⟩ => outAt m c
  Φ t := match t with
    | ⟨0, _⟩ => iprop(start m c ∗ ∃ f : Buf (Elt F) ((c : Thread nD τ).loc cc0_scratch0), ((c : Thread nD τ).loc cc0_scratch0) ↦{fullShare} f)
    | ⟨_ + 1, _⟩ => iprop((((c : Thread nD τ).loc cc0_scratch0) ↦{fullShare} inp m c) ∗ semVal (cell c 0) 0 ∗ semVal (cell c 1) 0 ∗ semVal (cell c 2) 0)
  q _ := fullShare
  owed t := match t with
    | ⟨0, _⟩ => owed₀ c
    | ⟨_ + 1, _⟩ => 0

/-- Ownership of a whole staging buffer at stated contents. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Owning a whole buffer through its reference is `holds`. -/
theorem owns_buffer (c : Dev nD) (b : Ref sig .tc) (X : b.ty.Contents (Elt F)) :
    (owns (Ix := Unit) (Name := ℕ) (U := Gst) (Lvl := ℕ) (c : Thread nD τ) (Memref.whole b) fullShare X : sProp 𝕄) = holds c b X := by
  unfold owns; simp only [Memref.view_whole, View.read_whole, View.set_whole]

/-- The input is fetched: the body finds the input block staged. -/
theorem before_inp (c : Dev nD) (d) : (dats m 0 c).before (0 : Fin 2) t0_0 d = inp m c := by
  unfold Dat.before; rw [if_pos (fetch0_0 t0_0)]; rfl

set_option maxRecDepth 4000 in
/-- The pipeline's demand on the body, at its one point. -/
theorem body_obligation (c : Dev nD) : BodyObligation (dats (F := F) m 0 c) (defs₀ (F := F)) noVariants () Set.univ := fun t => by
  rw [show t = t0_0 from fin_N0 t, bigSep_W0, bigSep_W0]
  simp only [owns_buffer]
  show iprop((start m c ∗ ∃ f : Buf (Elt F) ((c : Thread nD τ).loc cc0_scratch0), ((c : Thread nD τ).loc cc0_scratch0) ↦{fullShare} f)
      ∗ (dats m 0 c).owesAt () t0_0.castSucc
      ∗ (∃ d, holds c cc0_stg0_0 ((dats m 0 c).before (0 : Fin 2) t0_0 d))
      ∗ (∃ d, holds c cc0_stg1_0 ((dats m 0 c).before (1 : Fin 2) t0_0 d)))
    ⊢ wp frame (wpE (defs₀ (F := F)) noVariants c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2)
      (fun _ => iprop(((((c : Thread nD τ).loc cc0_scratch0) ↦{fullShare} inp m c) ∗ semVal (cell c 0) 0 ∗ semVal (cell c 1) 0 ∗ semVal (cell c 2) 0)
        ∗ (dats m 0 c).owesAt () t0_0.succ ∗ holds c cc0_stg0_0 (inp m c) ∗ holds c cc0_stg1_0 (outAt m c)))
  unfold start dealt Dat.owesAt Pipeline.owesWithin
  rw [show (dats m 0 c).owed t0_0.castSucc = owed₀ c from rfl, show (dats m 0 c).owed t0_0.succ = 0 from rfl, fin3]
  iintro ⟨⟨⟨⟨%K, HI, HR, ⟨Ha0, Ha1, Ha2⟩, Ht0, Ht1, Ht2⟩, Hc0, Hc2, Hlev⟩, Hb⟩, ⟨%W, -, HO⟩, ⟨%d0, %g0, %hg0, Hx⟩, ⟨%d1, %g1, -, Hout⟩⟩
  rw [before_inp] at hg0
  subst hg0
  iapply (body_run m K c W)
  isplitr []
  · isplitr [Hx Hout Hb]
    · unfold entry
      isplitl [HI]; · iexact HI
      isplitl [HR]; · iexact HR
      isplitl [Ha0]; · iexact Ha0
      isplitl [Ha1]; · iexact Ha1
      isplitl [Ha2]; · iexact Ha2
      isplitl [Ht0]; · iexact Ht0
      isplitl [Ht1]; · iexact Ht1
      isplitl [Ht2]; · iexact Ht2
      isplitl [Hc0]; · iexact Hc0
      isplitl [Hc2]; · iexact Hc2
      isplitl [Hlev]; · iexact Hlev
      iexact HO
    isplitl [Hx]; · iexact Hx
    isplitl [Hout]; · iexists g1; iexact Hout
    iexact Hb
  · unfold finished
    iintro ⟨⟨Hb, Hout, ⟨%W', HO⟩, Hz⟩, Hx⟩
    isplitl [Hb Hz]
    · isplitl [Hb]; · iexact Hb
      iexact Hz
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

/-! ## The semaphores enter the protocol -/

/-- The two semaphores of the kernel's own; the third, the barrier's, is the runtime's. -/
abbrev ownSem : Fin 2 → SemLoc sig := fun
  | 0 => .dma sendS
  | 1 => .dma recvS
/-- The two are distinct, and none of them is the staging pipeline's. -/
theorem ownSem_facts : Pipeline.OwnSemFacts cfg0.spec ownSem := by decide

/-- The kernel's own counters at zero, spelt out. -/
theorem own_sems (c : Dev nD) : (Pipeline.ownSems0 (Ix := Unit) (Name := ℕ) (U := Gst) (Lvl := ℕ) (Val := Elt F) (τ := τ) ownSem c : sProp 𝕄)
    = iprop(semVal (cell c 1) 0 ∗ semVal (cell c 2) 0) := by
  rw [Pipeline.ownSems0_eq_of_list c ownSem [0, 1] (by decide) (by decide)]; rfl
/-- The runtime's counter at zero, spelt out. -/
theorem runtime_sems (c : Dev nD) : (unscopedSems0 c : sProp 𝕄) = semVal (cell c 0) 0 := by
  unfold unscopedSems0; rw [bigSep_eq_bigSepL_of_eq [SemLoc.reg barS] (by decide) (by decide)]; rfl

/-- Every counter of the protocol, over the mesh. -/
def allCells : Finset (GSem nD τ sig) := Finset.univ.map ⟨fun ck : Dev nD × Fin 3 => cell ck.1 ck.2, cell_inj⟩
/-- Every right to arrive. -/
def allTickets : Finset (GSem nD τ sig × ℕ × Unit) :=
  Finset.univ.map ⟨fun ck : Dev nD × Fin 3 => (cell ck.1 ck.2, 0, ()), fun _ _ h => cell_inj (congrArg Prod.fst h)⟩

/-- The launch's ghost element: the pipeline's and the protocol's. -/
def seed : Gst := (initOf (Pipeline.cells cfgs cellOf_inj) (Pipeline.launchToks cfgs cellOf_inj), initOf allCells allTickets)

/-- What the protocol's element is worth to device `c`: for each of its semaphores the round state, its place, that the round is
    open, and the right to arrive. -/
def worth (c : Dev nD) : sProp 𝕄 := bigSep Finset.univ fun k : Fin 3 =>
  iprop(roundState EX (sched m) (cell c k) 0 ∗ (place c k 0 ∗ reached EX (cell c k) 0) ∗ ticket c k)

/-- A product over all counters is one over devices and numbers. -/
theorem over_cells (Φ : GSem nD τ sig → sProp 𝕄) :
    bigSep allCells Φ = bigSep Finset.univ fun c : Dev nD => bigSep Finset.univ fun k : Fin 3 => Φ (cell c k) := by
  unfold allCells; rw [bigSep_map, bigSep_univ_prod]; rfl
/-- The same of the rights to arrive. -/
theorem over_tickets : (bigSep allTickets fun x => dutyTok EX x.1 x.2.1 x.2.2 : sProp 𝕄)
    = bigSep Finset.univ fun c : Dev nD => bigSep Finset.univ fun k : Fin 3 => ticket c k := by
  unfold allTickets; rw [bigSep_map, bigSep_univ_prod]; rfl

/-- The launch element pays for every device. -/
theorem fund_all : BI.own (EX (initOf allCells allTickets)) ⊢ (|==> bigSep Finset.univ (worth m) : sProp 𝕄) := by
  iintro H
  imod (Rounds.fund EX (sched m) allCells allTickets) $$ H with ⟨Hst, Hr, Hat, Htok⟩
  imodintro
  unfold worth; simp only [bigSep_sep']
  ihave Hst := (Entails.of_eq (over_cells fun g => roundState EX (sched m) g 0)) $$ Hst
  ihave Hat := (Entails.of_eq (over_cells (F := F) fun g => atPos EX g 0 ∅ 0)) $$ Hat
  ihave Hr := (Entails.of_eq (over_cells (F := F) fun g => reached EX g 0)) $$ Hr
  ihave Htok := (Entails.of_eq (over_tickets (F := F))) $$ Htok
  isplitl [Hst]; · iexact Hst
  isplitl [Hat Hr]
  · isplitl [Hat]; · iexact Hat
    iexact Hr
  iexact Htok

/-- One device's three counters, at zero, become three invariants. -/
theorem enter (c : Dev nD) :
    iprop(Pipeline.ownSems0 (Ix := Unit) (Name := ℕ) (U := Gst) (Lvl := ℕ) (Val := Elt F) (τ := τ) ownSem c ∗ unscopedSems0 c ∗ worth m c)
      ⊢ |={Set.univ}=> bigSep Finset.univ fun k : Fin 3 =>
          iprop((∃ κ : ℕ, cellInv EX (sched m) κ (cell c k)) ∗ (place c k 0 ∗ reached EX (cell c k) 0) ∗ ticket c k) := by
  have hsems : iprop(Pipeline.ownSems0 (Ix := Unit) (Name := ℕ) (U := Gst) (Lvl := ℕ) (Val := Elt F) (τ := τ) ownSem c ∗ unscopedSems0 c)
      ⊢ (bigSep Finset.univ fun k : Fin 3 => semVal (cell c k) 0 : sProp 𝕄) := by
    rw [own_sems, runtime_sems, fin3]
    iintro ⟨⟨H1, H2⟩, H0⟩
    isplitl [H0]; · iexact H0
    isplitl [H1]; · iexact H1
    iexact H2
  have hall : iprop((bigSep Finset.univ fun k : Fin 3 => semVal (cell c k) 0) ∗ bigSep Finset.univ fun k : Fin 3 => roundState EX (sched m) (cell c k) 0)
      ⊢ (|={Set.univ}=> bigSep Finset.univ fun k : Fin 3 => iprop(∃ κ : ℕ, cellInv EX (sched m) κ (cell c k)) : sProp 𝕄) := by
    rw [← bigSep_sep']
    exact (bigSep_mono fun k _ => (Rounds.body_intro EX (sched m) (cell c k)).trans inv_alloc).trans (bigSep_fupd _ _)
  unfold worth
  rw [bigSep_sep', bigSep_sep' Finset.univ (fun k : Fin 3 => iprop(∃ κ : ℕ, cellInv EX (sched m) κ (cell c k)))]
  iintro ⟨Ho, Hu, Hst, Hrest⟩
  ihave Hv := hsems $$ [Ho Hu]
  · isplitl [Ho] <;> iassumption
  imod hall $$ [Hv Hst] with Hinv
  · isplitl [Hv] <;> iassumption
  imodintro
  isplitl [Hinv]; · iexact Hinv
  iexact Hrest

/-- Every invariant of the mesh at names `K`, and that every round 0 is open. -/
def known (K : Dev nD × Fin 3 → ℕ) : sProp 𝕄 :=
  iprop((bigSep Finset.univ fun ck : Dev nD × Fin 3 => cellInv EX (sched m) (K ck) (cell ck.1 ck.2))
    ∗ bigSep Finset.univ fun ck : Dev nD × Fin 3 => reached EX (cell ck.1 ck.2) 0)
/-- What is known may be used again. -/
instance known_persistent (K : Dev nD × Fin 3 → ℕ) : BI.Persistent (known m K) := by unfold known; infer_instance

/-- From what is known of the mesh, what one device needs of it. -/
theorem known_at (K : Dev nD × Fin 3 → ℕ) (c : Dev nD) : known m K ⊢ iprop(invs m K c ∗ opens c) := by
  have hi : ∀ d : Dev nD, known m K ⊢ bigSep Finset.univ fun k : Fin 3 => cellInv EX (sched m) (K (d, k)) (cell d k) := fun d => by
    unfold known; rw [bigSep_univ_prod]
    exact sep_elim_left.trans (bigSep_elim (Φ := fun d : Dev nD => bigSep Finset.univ fun k : Fin 3 => cellInv EX (sched m) (K (d, k)) (cell d k)) (Finset.mem_univ d))
  have hr : ∀ d : Dev nD, known m K ⊢ bigSep Finset.univ fun k : Fin 3 => reached EX (cell d k) 0 := fun d => by
    unfold known; rw [bigSep_univ_prod (fun ck : Dev nD × Fin 3 => (reached EX (cell ck.1 ck.2) 0 : sProp 𝕄))]
    exact sep_elim_right.trans (bigSep_elim (Φ := fun d : Dev nD => bigSep Finset.univ fun k : Fin 3 => reached EX (cell d k) 0) (Finset.mem_univ d))
  unfold invs opens
  iintro #H
  isplitr
  · isplitr; · iapply (hi c); iexact H
    iapply (hi (peer c)); iexact H
  · isplitr; · iapply (hr c); iexact H
    iapply (hr (peer c)); iexact H

/-- The rights to arrive, given where they are used: a device's barrier and landing rights go to its partner, its send right
    stays. -/
theorem tickets_across : (bigSep Finset.univ fun c : Dev nD => bigSep Finset.univ fun k : Fin 3 => (ticket c k : sProp 𝕄))
    ⊢ bigSep Finset.univ fun c : Dev nD => iprop(ticket (peer c) 0 ∗ ticket c 1 ∗ ticket (peer c) 2) := by
  rw [bigSep_congr (s := Finset.univ) (fun (c : Dev nD) _ => fin3 (fun k => (ticket c k : sProp 𝕄))), bigSep_sep', bigSep_sep', bigSep_sep', bigSep_sep',
    bigSep_univ_equiv mirror (fun c : Dev nD => (ticket c 0 : sProp 𝕄)), bigSep_univ_equiv mirror (fun c : Dev nD => (ticket c 2 : sProp 𝕄))]
  exact BI.Entails.refl _

/-- What is known of the mesh, with a device's own place and rights, is its share. -/
theorem share_out (K : Dev nD × Fin 3 → ℕ) (c : Dev nD) :
    iprop(known m K ∗ (bigSep Finset.univ fun k : Fin 3 => place c k 0) ∗ ticket (peer c) 0 ∗ ticket c 1 ∗ ticket (peer c) 2) ⊢ dealt m c := by
  unfold dealt
  iintro ⟨#H, Hat, Ht⟩
  ihave Hk := (known_at m K c) $$ H
  icases Hk with ⟨HI, HR⟩
  iexists K
  isplitl [HI]; · iexact HI
  isplitl [HR]; · iexact HR
  isplitl [Hat]; · iexact Hat
  iexact Ht

/-- From invariants, places and rights over the whole mesh to every device's share. -/
theorem deal : (bigSep Finset.univ fun c : Dev nD => bigSep Finset.univ fun k : Fin 3 =>
      iprop((∃ κ : ℕ, cellInv EX (sched m) κ (cell c k)) ∗ (place c k 0 ∗ reached EX (cell c k) 0) ∗ ticket c k) : sProp 𝕄)
    ⊢ bigSep Finset.univ (dealt m) := by
  have hfold (Φ : Dev nD → Fin 3 → sProp 𝕄) :
      (bigSep Finset.univ fun c : Dev nD => bigSep Finset.univ fun k : Fin 3 => Φ c k) = bigSep Finset.univ fun ck : Dev nD × Fin 3 => Φ ck.1 ck.2 :=
    (bigSep_univ_prod (fun ck : Dev nD × Fin 3 => Φ ck.1 ck.2)).symm
  simp only [bigSep_sep']
  rw [hfold fun c k => iprop(∃ κ : ℕ, cellInv EX (sched m) κ (cell c k)), hfold fun c k => reached EX (cell c k) 0]
  iintro ⟨HI, ⟨Hat, #HR⟩, Htok⟩
  ihave HK := (BI.bigSep_exists_pi Finset.univ (fun (ck : Dev nD × Fin 3) (κ : ℕ) => (cellInv EX (sched m) κ (cell ck.1 ck.2) : sProp 𝕄))) $$ HI
  icases HK with ⟨%K, #HI⟩
  ihave Htok := (tickets_across (F := F)) $$ Htok
  have hpair : iprop((bigSep Finset.univ fun c : Dev nD => bigSep Finset.univ fun k : Fin 3 => (place c k 0 : sProp 𝕄))
        ∗ bigSep Finset.univ fun c : Dev nD => iprop(ticket (peer c) 0 ∗ ticket c 1 ∗ ticket (peer c) 2))
      ⊢ bigSep Finset.univ fun c : Dev nD => iprop((bigSep Finset.univ fun k : Fin 3 => place c k 0) ∗ ticket (peer c) 0 ∗ ticket c 1 ∗ ticket (peer c) 2) :=
    Entails.of_eq (bigSep_sep' _ _ _).symm
  have hpers : iprop(known m K ∗ bigSep Finset.univ fun c : Dev nD => iprop((bigSep Finset.univ fun k : Fin 3 => place c k 0) ∗ ticket (peer c) 0 ∗ ticket c 1 ∗ ticket (peer c) 2))
      ⊢ bigSep Finset.univ (dealt m) :=
    (sep_mono_left (BI.bigSep_of_persistent Finset.univ (known m K))).trans (by rw [← bigSep_sep']; exact bigSep_mono fun c _ => share_out m K c)
  iapply hpers
  isplitr
  · unfold known
    isplitr; · iexact HI
    iexact HR
  iapply hpair
  isplitl [Hat]; · iexact Hat
  iexact Htok

/-- All counters enter the protocol, and every device gets its share. -/
theorem enter_all : (bigSep Finset.univ fun c => iprop(Pipeline.ownSems0 (Ix := Unit) (Name := ℕ) (U := Gst) (Lvl := ℕ) (Val := Elt F) (τ := τ) ownSem c ∗ unscopedSems0 c ∗ worth m c) : sProp 𝕄)
    ⊢ |={Set.univ}=> bigSep Finset.univ (dealt m) :=
  ((bigSep_mono fun c _ => enter m c).trans (bigSep_fupd _ _)).trans (BI.fupd_mono (deal m))

/-! ## What a device is owed at launch -/

/-- A device is owed one unit on its barrier and one half on its landing semaphore. -/
theorem owed_to (c : Dev nD) : (Pipeline.launchCred owed₀ c : sProp 𝕄) ⊢ iprop(cred (tallyAt (cell c 0) () 1) ∗ cred (tallyAt (cell c 2) () N)) := by
  unfold owed₀
  rw [Pipeline.launchCred_add (fun d : Dev nD => (tallyAt (cell (peer d) 2) () N : CellTallies nD τ sig Unit)) (fun d => tallyAt (cell (peer d) 0) () 1) c]
  iintro ⟨H2, H0⟩
  isplitl [H0]
  · iapply (Pipeline.launchCred_tallyAt (SemLoc.reg barS) peer peer peer_peer peer_peer () 1 c); iexact H0
  · iapply (Pipeline.launchCred_tallyAt (SemLoc.dma recvS) peer peer peer_peer peer_peer () N c); iexact H2

/-! ## The run -/

/-- Every staged array is held whole. -/
theorem share_full (c : Dev nD) (w : Fin cfg0.W) : (dats m 0 c).share w = fullShare := by unfold Dat.share; split <;> rfl

/-- The launch gives every device what its body starts with. -/
theorem start_intro (c : Dev nD) :
    iprop(Pipeline.unscopedRestP Pipeline.Prefetch.none cfg0.spec c (fun b => m ((c : Thread nD τ).loc b)) ∗ levAts idx level
        ∗ Pipeline.launchCred owed₀ c ∗ prngReg c (ρ c) ∗ dealt m c)
      ⊢ |={Set.univ}=> iprop(start m c ∗ emp) := by
  iintro ⟨-, Hlev, Hcr, -, Hd⟩
  ihave Hc := (owed_to (F := F) c) $$ Hcr
  icases Hc with ⟨H0, H2⟩
  imodintro
  unfold start
  isplitl
  · isplitl [Hd]; · iexact Hd
    isplitl [H0]; · iexact H0
    isplitl [H2]; · iexact H2
    iexact Hlev
  · iempintro

/-- With the copy buffer, that is the state before the body. -/
theorem first_point (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [scopedRest0_eq]
  show _ ⊢ iprop(start m c ∗ ∃ f : Buf (Elt F) ((c : Thread nD τ).loc cc0_scratch0), ((c : Thread nD τ).loc cc0_scratch0) ↦{fullShare} f)
  iintro ⟨Hs, -, Hb⟩
  isplitl [Hs]; · iexact Hs
  iexact Hb

/-- The state after the body gives back the copy buffer and the counters at zero. -/
theorem last_point (c : Dev nD) :
    (dats m 0 c).Φ (Fin.last cfg0.N) ⊢ iprop(unscopedSems0 c ∗ Pipeline.ownSems0 ownSem c ∗ Pipeline.scopedRest cfg0.spec c) := by
  rw [scopedRest0_eq, own_sems, runtime_sems]
  show iprop((((c : Thread nD τ).loc cc0_scratch0) ↦{fullShare} inp m c) ∗ semVal (cell c 0) 0 ∗ semVal (cell c 1) 0 ∗ semVal (cell c 2) 0) ⊢ _
  iintro ⟨Hb, H0, H1, H2⟩
  isplitl [H0]; · iexact H0
  isplitl [H1 H2]
  · isplitl [H1]; · iexact H1
    iexact H2
  iexists _; iexact Hb

/-- The pipeline's own waits are of the lowest rank. -/
theorem staging_waits (c : Dev nD) : (levAts idx level : sProp 𝕄) ⊢ Pipeline.cellsWaits cfgs (dats m) () 0 c :=
  Pipeline.cellsWaits_intro cfgs (dats m) () 0 c fun w s t => by
    rcases t with ⟨_ | _, ht⟩
    · exact may_low c _ (by fin_cases w <;> fin_cases s <;> decide)
    · show _ ⊢ MayWait _ _ () 0
      rw [MayWait_zero]; iintro -; iempintro

/-- What each array of device `c` holds in the end. -/
def final (c : Dev nD) (w : Fin cfg0.W) : Buf (Elt F) ((cfg0.win w).arr.view.loc (c : Thread nD τ)) := (dats m 0 c).arrAt w cfg0.N

set_option maxRecDepth 8000 in
/-- From any memory with every counter at zero, every weakly fair execution of the program ends, each device's arrays hold
    `final`, and every counter is at zero again. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EPipe defs₀ noVariants m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owed₀) (howed₀ := fun _ => rfl) (howedN := fun _ => rfl)
    (L := idx) (lv := level) (hL := idx_off) (hwaits := staging_waits m)
    (G := worth m) (G' := dealt m) (u₀ := seed)
    (hu₀ := by
      unfold seed
      iintro Hu
      ihave H := (ownU_pair _ _) $$ Hu
      icases H with ⟨HP, HX⟩
      imod (fund_all m) $$ HX with HG
      imodintro
      isplitl [HP] <;> iassumption)
    (hglob := enter_all m)
    (hA := fun _ _ => rfl) (hpf := fun _ k => k.elim0)
    (X := start m) (Y := fun c => unscopedSems0 c) (Z := fun _ => iprop(emp))
    (hX := start_intro m ρ) (hin := first_point m) (hout := last_point m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Value.lean ====
/- What the run leaves, read as blocks of one whole array: the kernel re-cuts a 512 × 512 array from two row blocks to two column
   blocks, and nothing else changes. -/
module

public import proofs.«01_k».proof.Proof.Launch
public import proofs.«01_k».proof.ReferenceIdeal
public import proofs.«01_k».proof.Proof.Gen.ReferenceIdeal
public import Idealize.ShloMosaic.Lib.Layout
public import Idealize.ShloMosaic.Lib.Pipeline.ValueKit
public import Idealize.ShloMosaic.Lib.StableHlo.Run

@[expose] public section

noncomputable section

namespace Cert.Exchange

open Cert.KernelIdeal Cert.KernelIdeal.Gen
open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-! ## The arrays at the end -/

/-- The argument array is as it was. -/
theorem final_arg (c : Dev nD) : final m c (0 : Fin 2) = m ((c : Thread nD τ).loc main_arg0) :=
  (dats (F := F) m 0 c).arrAt_in (0 : Fin 2) rfl _

/-- The one input block lies at the origin of its array. -/
theorem in_origin : ∀ a, win0_0.index (0 : Fin 1) a = 0 := by decide +kernel
/-- The one result block lies at the origin of its array. -/
theorem out_origin : ∀ a, win0_1.index (0 : Fin 1) a = 0 := by decide +kernel

/-- The one input block is the whole argument array. -/
theorem inp_eq (c : Dev nD) : inp m c = m ((c : Thread nD τ).loc main_arg0) := by
  funext y
  show m ((c : Thread nD τ).loc main_arg0) ((win0_0.rect (0 : Fin 1)).emb y) = _
  refine congrArg _ (funext fun a => Fin.ext ?_)
  exact win0_0.rect_emb_val_of_index_zero (0 : Fin 1) a (in_origin a) y

/-- The result array is the finished block. -/
theorem final_result (c : Dev nD) : final m c (1 : Fin 2) = outAt m c := by
  refine (dats (F := F) m 0 c).arrAt_eq_of_covers (1 : Fin 2) _ (by decide +kernel) (fun t _ y => ?_)
  obtain rfl := fin_N0 t
  show outAt m c _ = outAt m c ((win0_1.rect (0 : Fin 1)).emb y)
  refine congrArg _ (funext fun a => Fin.ext ?_)
  exact (win0_1.rect_emb_val_of_index_zero (0 : Fin 1) a (out_origin a) y).symm

/-- The run, read at the program's two arrays. -/
theorem run_arrays : θ_run defs (onTc (τ := τ) (main (F := F))) ⟨m, fun _ => 0, ρ⟩
    (fun r => (∀ c : Dev nD, r.2.mem ((c : Thread nD τ).loc main_v1) = outAt m c
        ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (final_result m c), (h.1 c (0 : Fin 2)).trans (final_arg m c)⟩, h.2⟩)
    (run_main m ρ)

/-! ## Blocks of a whole array -/

/-- The block of a whole array that a device has when the rows are cut in two along the short mesh axis. -/
abbrev rowBlock (c : Dev nD) (v : Shape.Idx ⟨2, ![512, 512]⟩ → Elt F .bf16) : Shape.Idx ⟨2, ![256, 512]⟩ → Elt F .bf16 :=
  Layout.blockN ⟨2, ![256, 512]⟩ ⟨2, ![512, 512]⟩ (Layout.meshBlock [2, 4, 4] ![[0], []] c) v
/-- The same with the columns cut. -/
abbrev colBlock (c : Dev nD) (v : Shape.Idx ⟨2, ![512, 512]⟩ → Elt F .bf16) : Shape.Idx ⟨2, ![512, 256]⟩ → Elt F .bf16 :=
  Layout.blockN ⟨2, ![512, 256]⟩ ⟨2, ![512, 512]⟩ (Layout.meshBlock [2, 4, 4] ![[], [0]] c) v

/-- The block number along a cut axis is the device's coordinate; along an axis not cut it is 0. -/
theorem row_place (c : Dev nD) : Layout.meshLin [2, 4, 4] c.val [0] = (side c).val := by revert c; decide
/-- Along an axis that is not cut the block number is 0. -/
theorem no_place (c : Dev nD) : Layout.meshLin [2, 4, 4] c.val [] = 0 := by revert c; decide

/-- If every device starts with its row block of `v`, then every finished result block is that device's column block of `v`. -/
theorem outAt_block (v : Shape.Idx ⟨2, ![512, 512]⟩ → Elt F .bf16)
    (h : ∀ c : Dev nD, m ((c : Thread nD τ).loc main_arg0) = rowBlock c v) (c : Dev nD) : outAt m c = colBlock c v := by
  -- an element taken from the input of a device `d`, whose rows are the half the element lies in
  have take : ∀ (d : Dev nD) (i : S512x256.Idx), (i 0).val / 256 = (side d).val → pick (side c) (inp m d) i = colBlock c v i := by
    intro d i hi
    rw [inp_eq, h d]
    unfold pick
    refine congrArg v (funext fun a => Fin.ext ?_)
    match a with
    | ⟨0, _⟩ =>
      show Layout.meshLin [2, 4, 4] d.val [0] * 256 + (i 0).val % 256 = Layout.meshLin [2, 4, 4] c.val [] * 512 + (i 0).val
      rw [row_place, no_place]; omega
    | ⟨1, _⟩ =>
      show Layout.meshLin [2, 4, 4] d.val [] * 512 + (256 * (side c).val + (i 1).val) = Layout.meshLin [2, 4, 4] c.val [0] * 256 + (i 1).val
      rw [row_place, no_place]; omega
  funext i
  unfold outAt
  have h0 : (i 0).val < 512 := (i 0).isLt
  split
  · exact take c i ‹_›
  · refine take (peer c) i ?_
    rw [side_peer, other_val]
    have := (side c).isLt
    omega

end Cert.Exchange

/-! ## The reference -/

namespace Cert.Exchange.Reference

open Cert.ReferenceIdeal
open Idealize.ShloMosaic Idealize.SL.Sem Idealize.ShloMosaic.StableHlo

variable {F : FTy → Type} [FloatOps F]

/-- The reference is a program of no operations: it ends, and its one array is as it was. -/
theorem run (m : (ℓ : Loc nD τ sig) → Buf (Elt F) ℓ) (ρ : Dev nD → PrngReg) :
    θ_run defs (onTc (τ := τ) (main (F := F))) ⟨m, fun _ => 0, ρ⟩
      fun r => ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Cert.Exchange.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed and the kernel read at exact values call the same body, whatever the float values are. -/
theorem same_bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))
theorem same_defs : Cert.Kernel.defs (F := Bits) = Cert.KernelIdeal.defs (F := Bits) := congrArg (Pipeline.defs Cert.Kernel.pcfgs) same_bodies

/-- The kernel as printed: it ends, its argument array is unchanged, every counter is at zero. -/
theorem frame_kernel : Cert.quiescent_Kernel := fun m g _ => by
  rw [same_defs]
  exact (θ_run (Cert.KernelIdeal.defs (F := Bits)) (onTc (τ := Cert.KernelIdeal.τ) (Cert.KernelIdeal.main (F := Bits))) ⟨m, fun _ => 0, g⟩).mono
    (fun _ h => ⟨fun c => (h.1 c).2, h.2⟩) (Cert.Exchange.run_arrays (F := Bits) m g)

/-- The same of the kernel read at exact values. -/
theorem frame_ideal : Cert.quiescent_KernelIdeal := fun m g _ =>
  (θ_run Cert.KernelIdeal.defs _ _).mono (fun _ h => ⟨fun c => (h.1 c).2, h.2⟩) (Cert.Exchange.run_arrays (F := Ideal) m g)

/-- The same of the reference, which declares no semaphore. -/
theorem frame_reference : Cert.quiescent_ReferenceIdeal := fun m g _ =>
  (θ_run Cert.ReferenceIdeal.defs _ _).mono (fun r h => ⟨h, sem_eq_zero_of_no_sems (by decide) r.2⟩)
    (Cert.Exchange.Reference.run (F := Ideal) m g)

/-- No operation was replaced. -/
theorem same_text : Cert.preserves_Kernel_KernelIdeal := trivial

/-- From the row blocks of an array, the kernel leaves on every device its column block of the array the reference ends with. -/
theorem value : Cert.algebraic_KernelIdeal_ReferenceIdeal := by
  intro m g m' g' _ hrows
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨((h.1 c).1).trans (Cert.Exchange.outAt_block m _ hrows c), (h.1 c).2⟩)
      (Cert.Exchange.run_arrays (F := Ideal) m g)
  · exact (θ_run Cert.ReferenceIdeal.defs _ _).mono (fun _ h => ⟨h 0, h 0⟩) (Cert.Exchange.Reference.run (F := Ideal) m' g')

theorem claim : Cert.Claim := ⟨Cert.Kernel.Gen.facts, Cert.KernelIdeal.Gen.facts, Cert.ReferenceIdeal.Gen.facts,
  frame_kernel, frame_ideal, frame_reference, same_text, value⟩

end Cert.Proof

end
